-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_v66) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x1024 : Shape := ⟨3, ![16, 4096, 1024]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S16x1x2048 : Shape := ⟨3, ![16, 1, 2048]⟩
abbrev S16x1x1024 : Shape := ⟨3, ![16, 1, 1024]⟩
abbrev S1x2048x1024 : Shape := ⟨3, ![1, 2048, 1024]⟩
abbrev S1x1x2048 : Shape := ⟨3, ![1, 1, 2048]⟩
abbrev S1x1x1024 : Shape := ⟨3, ![1, 1, 1024]⟩
abbrev S2048x1024 : Shape := ⟨2, ![2048, 1024]⟩
abbrev S2048x128 : Shape := ⟨2, ![2048, 128]⟩
abbrev S128x2048 : Shape := ⟨2, ![128, 2048]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S16x2048 : Shape := ⟨2, ![16, 2048]⟩
abbrev S16x4096 : Shape := ⟨2, ![16, 4096]⟩
abbrev S16x1024 : Shape := ⟨2, ![16, 1024]⟩
abbrev S1x64 : Shape := ⟨2, ![1, 64]⟩
abbrev S1x1 : Shape := ⟨2, ![1, 1]⟩
abbrev S16x1 : Shape := ⟨2, ![16, 1]⟩
abbrev S16x64 : Shape := ⟨2, ![16, 64]⟩
abbrev S1x16x2048 : Shape := ⟨3, ![1, 16, 2048]⟩
abbrev S1x1x1 : Shape := ⟨3, ![1, 1, 1]⟩
abbrev S_ : Shape := ⟨0, ![]⟩
abbrev S16 : Shape := ⟨1, ![16]⟩

abbrev nBuf : Space → Nat
  | .hbm => 29
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S16x1x2048, .f32⟩
  | .hbm, ⟨6, _⟩ => ⟨S16x1x2048, .f32⟩
  | .hbm, ⟨7, _⟩ => ⟨S16x1x1024, .f32⟩
  | .hbm, ⟨8, _⟩ => ⟨S16x2048, .f32⟩
  | .hbm, ⟨9, _⟩ => ⟨S16x2048, .f32⟩
  | .hbm, ⟨10, _⟩ => ⟨S16x4096, .f32⟩
  | .hbm, ⟨11, _⟩ => ⟨S16x2048, .f32⟩
  | .hbm, ⟨12, _⟩ => ⟨S16x1024, .f32⟩
  | .hbm, ⟨13, _⟩ => ⟨S1x64, .f32⟩
  | .hbm, ⟨14, _⟩ => ⟨S1x1, .f32⟩
  | .hbm, ⟨15, _⟩ => ⟨S16x2048, .f32⟩
  | .hbm, ⟨16, _⟩ => ⟨S16x2048, .f32⟩
  | .hbm, ⟨17, _⟩ => ⟨S16x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S16x2048, .f32⟩
  | .hbm, ⟨23, _⟩ => ⟨S16x2048, .i1⟩
  | .hbm, ⟨24, _⟩ => ⟨S16x2048, .i1⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x1024, .f32⟩
  | .local _ .vmem, ⟨9, _⟩ => ⟨S1x1x1024, .f32⟩
  | .local _ .vmem, ⟨10, _⟩ => ⟨S16x1024, .f32⟩
  | .local _ .vmem, ⟨11, _⟩ => ⟨S16x2048, .f32⟩
  | .local _ .vmem, ⟨12, _⟩ => ⟨S1024x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S16x2048, .f32⟩
  | .local _ .vmem, ⟨17, _⟩ => ⟨S16x2048, .f32⟩
  | .local _ .vmem, ⟨18, _⟩ => ⟨S16x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== ReferenceIdeal.lean ====
abbrev S16x4096x1024 : Shape := ⟨3, ![16, 4096, 1024]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S_ : Shape := ⟨0, ![]⟩
abbrev S16x4096 : Shape := ⟨2, ![16, 4096]⟩
abbrev S16x4096x1 : Shape := ⟨3, ![16, 4096, 1]⟩
abbrev S16x2048x1024 : Shape := ⟨3, ![16, 2048, 1024]⟩
abbrev S16x2048 : Shape := ⟨2, ![16, 2048]⟩
abbrev S16x1024 : Shape := ⟨2, ![16, 1024]⟩
abbrev S16x64 : Shape := ⟨2, ![16, 64]⟩
abbrev S1x64 : Shape := ⟨2, ![1, 64]⟩
abbrev S16x1 : Shape := ⟨2, ![16, 1]⟩
abbrev S1x1 : Shape := ⟨2, ![1, 1]⟩
abbrev S16 : Shape := ⟨1, ![16]⟩

abbrev nBuf : Space → Nat
  | .hbm => 99
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1024, .f32⟩
  | .hbm, ⟨14, _⟩ => ⟨S16x4096x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x64, .f32⟩
  | .hbm, ⟨26, _⟩ => ⟨S1x64, .f32⟩
  | .hbm, ⟨27, _⟩ => ⟨S16x64, .f32⟩
  | .hbm, ⟨28, _⟩ => ⟨S16x64, .f32⟩
  | .hbm, ⟨29, _⟩ => ⟨S_, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S_, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x1, .f32⟩
  | .hbm, ⟨39, _⟩ => ⟨S1x1, .f32⟩
  | .hbm, ⟨40, _⟩ => ⟨S16x1, .f32⟩
  | .hbm, ⟨41, _⟩ => ⟨S16x1, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16x1, .f32⟩
  | .hbm, ⟨58, _⟩ => ⟨S16x2048, .f32⟩
  | .hbm, ⟨59, _⟩ => ⟨S16x2048, .f32⟩
  | .hbm, ⟨60, _⟩ => ⟨S_, .f32⟩
  | .hbm, ⟨61, _⟩ => ⟨S16x2048, .f32⟩
  | .hbm, ⟨62, _⟩ => ⟨S16x2048, .f32⟩
  | .hbm, ⟨63, _⟩ => ⟨S_, .f32⟩
  | .hbm, ⟨64, _⟩ => ⟨S16x2048, .f32⟩
  | .hbm, ⟨65, _⟩ => ⟨S16x2048, .i1⟩
  | .hbm, ⟨66, _⟩ => ⟨S16x2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x2048, .f32⟩
  | .hbm, ⟨72, _⟩ => ⟨S16x2048, .f32⟩
  | .hbm, ⟨73, _⟩ => ⟨S_, .f32⟩
  | .hbm, ⟨74, _⟩ => ⟨S16x2048, .f32⟩
  | .hbm, ⟨75, _⟩ => ⟨S16x2048, .f32⟩
  | .hbm, ⟨76, _⟩ => ⟨S_, .f32⟩
  | .hbm, ⟨77, _⟩ => ⟨S16x2048, .f32⟩
  | .hbm, ⟨78, _⟩ => ⟨S16x2048, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16x2048, .f32⟩
  | .hbm, ⟨84, _⟩ => ⟨S_, .f32⟩
  | .hbm, ⟨85, _⟩ => ⟨S16x2048, .f32⟩
  | .hbm, ⟨86, _⟩ => ⟨S16x2048, .f32⟩
  | .hbm, ⟨87, _⟩ => ⟨S16x2048, .i1⟩
  | .hbm, ⟨88, _⟩ => ⟨S16x2048, .f32⟩
  | .hbm, ⟨89, _⟩ => ⟨S_, .f32⟩
  | .hbm, ⟨90, _⟩ => ⟨S16x2048, .f32⟩
  | .hbm, ⟨91, _⟩ => ⟨S16x2048, .f32⟩
  | .hbm, ⟨92, _⟩ => ⟨S16x2048, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_cst_16 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_18 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_19 : Ref sig .tc := ⟨.hbm, 93, rfl⟩
abbrev main_v64 : Ref sig .tc := ⟨.hbm, 94, rfl⟩
abbrev main_cst_20 : Ref sig .tc := ⟨.hbm, 95, rfl⟩
abbrev main_v65 : Ref sig .tc := ⟨.hbm, 96, rfl⟩
abbrev main_cst_21 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Proof.Spec.lean ====
/-
  The mathematics both programs compute, over the extended reals, and the identities between the two ways of
  computing it.

  `X b r k` is the input (batch, row, column), `W`, `v` the first layer of the gate, `U`, `d` the second. Rows are taken in
  pairs `(2p, 2p + 1)`. The definitions are written the way the reference computes them; the lemmas turn the way the
  kernel computes each of them into the definition. No lemma needs the input to be finite.
-/
module

public import Idealize.ShloMosaic.PureOps.Ideal
public import Idealize.ShloMosaic.Lib.IdealHost
public import Idealize.ShloMosaic.Lib.Pointwise

@[expose] public section

noncomputable section

open Idealize.ShloMosaic

namespace Cert.Spec

/-! ## What is computed -/

/-- The length of a row, never below the small constant. -/
def len (x : Fin 1024 → EReal) : EReal := max (Ideal.sqrt (∑ k, x k * x k)) (Ideal.ofBits .f32 0x2B8CBCCC#32)

/-- The similarity of two rows: the product of the two, each divided by its length. -/
def sim (x y : Fin 1024 → EReal) : EReal := ∑ k, Ideal.div (x k) (len x) * Ideal.div (y k) (len y)

/-- The first row of pair `p`. -/
def left (p : Fin 2048) : Fin 4096 := ⟨2 * p.val, by omega⟩
/-- The second row of pair `p`. -/
def right (p : Fin 2048) : Fin 4096 := ⟨2 * p.val + 1, by omega⟩

/-- The gate's activation. -/
def act (h : EReal) : EReal :=
  Ideal.ofBits .f32 0x3F000000#32 * h * Ideal.erfc (-h * Ideal.ofBits .f32 0x3F3504F3#32)

/-- `1` where the number is not negative, else `0`. -/
def bit (l : EReal) : EReal := if 0 ≤ l then 1 else 0

/-- The mean over the 16 · 2048 pairs. -/
def mean (f : Fin 16 → Fin 2048 → EReal) : EReal := Ideal.div (∑ i, ∑ p, f i p) (Ideal.ofBits .f32 0x47000000#32)

section
variable (X : Fin 16 → Fin 4096 → Fin 1024 → EReal) (W : Fin 1024 → Fin 64 → EReal) (v U : Fin 64 → EReal) (d : EReal)

/-- The first layer on the mean row of batch `i`. -/
def hidden (i : Fin 16) (h : Fin 64) : EReal :=
  ∑ k, Ideal.div (∑ r, X i r k) (Ideal.ofBits .f32 0x45800000#32) * W k h + v h

/-- The threshold of batch `i`. -/
def theta (i : Fin 16) : EReal :=
  Ideal.ofBits .f32 0x40000000#32 * Ideal.logistic (∑ h, act (hidden X W v i h) * U h + d)

/-- The logit of pair `p` of batch `i`. -/
def logit (i : Fin 16) (p : Fin 2048) : EReal :=
  Ideal.div (sim (X i (left p)) (X i (right p)) - theta X W v U d i) (Ideal.ofBits .f32 0x3DCCCCCD#32)

end

/-- The share of tokens kept: one token where a pair is merged, two where it is not, over the two there were. -/
def keptShare (l : Fin 16 → Fin 2048 → EReal) : EReal :=
  Ideal.div (mean fun i p => bit (l i p) + Ideal.ofBits .f32 0x40000000#32 * (if 0 ≤ l i p then 0 else 1))
    (Ideal.ofBits .f32 0x40000000#32)

/-! ## The numbers the words denote -/

/-- The word for one half. -/
theorem half_eq : Ideal.ofBits .f32 0x3F000000#32 = ((1 / 2 : ℝ) : EReal) := by
  simp [Ideal.ofBits, Ideal.ieee, -EReal.coe_mul]; norm_num
/-- The word for two. -/
theorem two_eq : Ideal.ofBits .f32 0x40000000#32 = ((2 : ℝ) : EReal) := by
  simp [Ideal.ofBits, Ideal.ieee, -EReal.coe_mul]; norm_num
/-- The word for the number of rows of a batch. -/
theorem rows_eq : Ideal.ofBits .f32 0x45800000#32 = ((4096 : ℝ) : EReal) := by
  simp [Ideal.ofBits, Ideal.ieee, -EReal.coe_mul]; norm_num
/-- The word for its inverse. -/
theorem rowsInv_eq : Ideal.ofBits .f32 0x39800000#32 = ((1 / 4096 : ℝ) : EReal) := by
  simp [Ideal.ofBits, Ideal.ieee, -EReal.coe_mul]; norm_num
/-- The word for the number of pairs. -/
theorem pairs_eq : Ideal.ofBits .f32 0x47000000#32 = ((32768 : ℝ) : EReal) := by
  simp [Ideal.ofBits, Ideal.ieee, -EReal.coe_mul]; norm_num
/-- The word for its inverse. -/
theorem pairsInv_eq : Ideal.ofBits .f32 0x38000000#32 = ((1 / 32768 : ℝ) : EReal) := by
  simp [Ideal.ofBits, Ideal.ieee, -EReal.coe_mul]; norm_num
/-- The small constant is positive. -/
theorem tiny_pos : 0 < Ideal.ofBits .f32 0x2B8CBCCC#32 := by
  simp [Ideal.ofBits, Ideal.ieee, -EReal.coe_mul]

/-- Multiplying by `1/4096` is dividing by `4096`. -/
theorem mul_rowsInv (x : EReal) : x * Ideal.ofBits .f32 0x39800000#32 = Ideal.div x (Ideal.ofBits .f32 0x45800000#32) := by
  rw [rowsInv_eq, rows_eq, Ideal.div_coe (by norm_num)]

/-- Multiplying by `1/32768` is dividing by `32768`. -/
theorem mul_pairsInv (x : EReal) : x * Ideal.ofBits .f32 0x38000000#32 = Ideal.div x (Ideal.ofBits .f32 0x47000000#32) := by
  rw [pairsInv_eq, pairs_eq, Ideal.div_coe (by norm_num)]

/-! ## Sums -/

/-- A sum over 1024 columns taken as 128 sums of the eight columns that lie 128 apart. -/
theorem sum_lanes (f : Fin 1024 → EReal) :
    ∑ l : Fin 128, (f ⟨l.val, by omega⟩ + f ⟨128 + l.val, by omega⟩ + f ⟨256 + l.val, by omega⟩ + f ⟨384 + l.val, by omega⟩
      + f ⟨512 + l.val, by omega⟩ + f ⟨640 + l.val, by omega⟩ + f ⟨768 + l.val, by omega⟩ + f ⟨896 + l.val, by omega⟩)
    = ∑ k, f k := by
  rw [Fin.sum_univ_tiles 8 128 rfl f, Fin.sum_univ_eight]
  simp only [Finset.sum_add_distrib]
  simp

/-- A sum over 4096 rows as the sum over the first 2048 and the sum over the last 2048. -/
theorem sum_halves (f : Fin 4096 → EReal) :
    ∑ r : Fin 2048, f ⟨r.val, by omega⟩ + ∑ r : Fin 2048, f ⟨2048 + r.val, by omega⟩ = ∑ r, f r :=
  (Fin.sum_univ_two_halves 2048 2048 rfl f).symm

/-- Multiplication by a number that is neither negative nor `⊤` goes through a sum. -/
theorem sum_mul {ι : Type} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- A finite sum of reals, read in the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ## The similarity -/

/-- A length is positive. -/
theorem len_pos (x : Fin 1024 → EReal) : 0 < len x := lt_max_of_lt_right tiny_pos

/-- The kernel divides the product of the rows once by the product of the lengths. -/
theorem sim_eq (x y : Fin 1024 → EReal) : Ideal.div (∑ k, x k * y k) (len x * len y) = sim x y := by
  have hx := len_pos x
  have hy := len_pos y
  have hxy : len x * len y ≠ 0 := (EReal.mul_pos hx hy).ne'
  have hc : 0 ≤ (len x * len y)⁻¹ := EReal.inv_nonneg_of_nonneg (EReal.mul_pos hx hy).le
  have ht : (len x * len y)⁻¹ ≠ ⊤ := (EReal.inv_lt_top _).ne
  simp only [sim, Ideal.div, if_neg hxy, if_neg hx.ne', if_neg hy.ne']
  rw [sum_mul _ _ hc ht]
  refine Finset.sum_congr rfl fun k _ => ?_
  rw [EReal.mul_inv, mul_mul_mul_comm]

/-! ## The activation -/

/-- The error function is odd. -/
theorem erf_neg (x : EReal) : Ideal.erf (-x) = -Ideal.erf x := by
  induction x with
  | bot => simp
  | top => simp
  | coe r =>
    rw [← EReal.coe_neg, Ideal.erf_coe, Ideal.erf_coe, ← EReal.coe_neg]
    congr 1
    have h : ∫ t in (0 : ℝ)..(-r), Real.exp (-(t ^ 2)) = -∫ t in (0 : ℝ)..r, Real.exp (-(t ^ 2)) := by
      have := intervalIntegral.integral_comp_neg (a := 0) (b := r) (fun t : ℝ => Real.exp (-(t ^ 2)))
      simp only [neg_sq, neg_zero] at this
      rw [this, intervalIntegral.integral_symm]
    rw [h]; ring

/-- The kernel's `1 + erf` is the reference's `erfc` of the negated argument. -/
theorem act_eq (h : EReal) :
    Ideal.ofBits .f32 0x3F000000#32 * h * (1 + Ideal.erf (h * Ideal.ofBits .f32 0x3F3504F3#32)) = act h := by
  rw [act, Ideal.erfc, EReal.neg_mul, erf_neg, sub_eq_add_neg, neg_neg]

/-! ## The mask and the means -/

/-- The kernel's mask, a word widened to 32 bits and read as a number. -/
theorem sitofp_bit (l : EReal) :
    FloatOps.sitofp (F := Ideal) .f32 (BitVec.setWidth 32 (BitVec.ofBool (decide (0 ≤ l)))) = bit l := by
  show (((BitVec.setWidth 32 (BitVec.ofBool (decide (0 ≤ l)))).toInt : ℝ) : EReal) = bit l
  by_cases h : 0 ≤ l <;> simp [bit, h]

/-- The reference's mask read as a number. -/
theorem uitofp_bit (l : EReal) : FloatOps.uitofp (F := Ideal) .f32 (BitVec.ofBool (decide (0 ≤ l))) = bit l := by
  show (((BitVec.ofBool (decide (0 ≤ l))).toNat : ℝ) : EReal) = bit l
  by_cases h : 0 ≤ l <;> simp [bit, h]

/-- The reference's negated mask read as a number. -/
theorem uitofp_not (l : EReal) :
    FloatOps.uitofp (F := Ideal) .f32 (~~~BitVec.ofBool (decide (0 ≤ l))) = if 0 ≤ l then 0 else 1 := by
  show (((~~~BitVec.ofBool (decide (0 ≤ l))).toNat : ℝ) : EReal) = if 0 ≤ l then 0 else 1
  by_cases h : 0 ≤ l <;> simp [h]

/-- The kernel returns the mask as a number; the test "not zero" gives the word back. -/
theorem bit_ne_zero (l : EReal) : BitVec.ofBool (decide (bit l ≠ 0)) = BitVec.ofBool (decide (0 ≤ l)) := by
  by_cases h : 0 ≤ l <;> simp [bit, h]

/-- `1 - r/2`, for `r` the share of merged pairs, is the share of tokens kept. -/
theorem keptShare_eq (l : Fin 16 → Fin 2048 → EReal) :
    1 - Ideal.ofBits .f32 0x3F000000#32 * mean (fun i p => bit (l i p)) = keptShare l := by
  have hb : ∀ i p, bit (l i p) = ((if 0 ≤ l i p then 1 else 0 : ℝ) : EReal) := fun i p => by
    by_cases h : 0 ≤ l i p <;> simp [bit, h]
  have hk : ∀ i p, bit (l i p) + Ideal.ofBits .f32 0x40000000#32 * (if 0 ≤ l i p then 0 else 1)
      = ((2 - (if 0 ≤ l i p then 1 else 0) : ℝ) : EReal) := fun i p => by
    rw [two_eq]
    by_cases h : 0 ≤ l i p
    · simp only [bit, h, if_true, mul_zero, add_zero]; norm_num
    · simp only [bit, h, if_false, mul_one, zero_add]; norm_num
  simp only [keptShare, mean, hk]
  simp only [hb, coe_sum, half_eq, two_eq, pairs_eq]
  rw [Ideal.div_coe (by norm_num), Ideal.div_coe (by norm_num), Ideal.div_coe (by norm_num)]
  simp only [← EReal.coe_mul]
  rw [← EReal.coe_one, ← EReal.coe_sub]
  congr 1
  simp only [Finset.sum_sub_distrib, Finset.sum_const, Finset.card_univ, Fintype.card_fin, nsmul_eq_mul]
  push_cast
  ring

end Cert.Spec

end
-- ==== Proof.Blocks.lean ====
/-
  What the two kernels compute on the blocks they are handed, read at an index: a row of the first kernel's block against
  the row after it, the column sums of the block, and the second kernel's threshold, logits, mask and three means.
-/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Blocks

open Cert.KernelIdeal Cert.KernelIdeal.Gen

/-! ## The first kernel -/

/-- Row `r` of a block of 2048 rows. -/
abbrev row (x : FVec Ideal S1x2048x1024 .f32) (r : Fin 2048) : Fin 1024 → EReal := fun k => x (ix3 0 r k)

/-- The row the rotation by 2047 brings to `r`: the one after it, the first one after the last. -/
abbrev next (r : Fin 2048) : Fin 2048 := ⟨(r.val + 2048 - 2047) % 2048, by omega⟩

/-- The lane by lane sum of the products of row `r` with the row after it is the sum over the columns. -/
theorem products_at (x : FVec Ideal S1x2048x1024 .f32) (r : Fin 2048) :
    k0_pay5 (F := Ideal) x (ix2 0 r) = ∑ k, row x r k * row x (next r) k := by
  rw [← Spec.sum_lanes fun k => row x r k * row x (next r) k]
  pointwise [k0_pay5, k0_pay3]

/-- The product of the length of row `r` and the length of the row after it. -/
theorem lengths_at (x : FVec Ideal S1x2048x1024 .f32) (r : Fin 2048) :
    k0_pay6 (F := Ideal) x (ix2 0 r) = Spec.len (row x r) * Spec.len (row x (next r)) := by
  rw [Spec.len, Spec.len, ← Spec.sum_lanes fun k => row x r k * row x r k,
    ← Spec.sum_lanes fun k => row x (next r) k * row x (next r) k]
  pointwise [k0_pay6, k0_pay3]

/-- The first half's result: the similarity of row `r` and the row after it. -/
theorem sim_at (x : FVec Ideal S1x2048x1024 .f32) (r : Fin 2048) :
    k0_pay7 (F := Ideal) (k0_pay5 x) (k0_pay6 x) (ix3 0 0 r) = Spec.sim (row x r) (row x (next r)) := by
  pointwise [k0_pay7]
  rw [products_at, lengths_at, Spec.sim_eq]

/-- The second half runs the same operations as the first. -/
theorem second_eq (x : FVec Ideal S1x2048x1024 .f32) :
    k0_pay1 (F := Ideal) (k0_pay8 (k0_pay4 x)) = k0_pay7 (k0_pay5 x) (k0_pay6 x) := rfl

/-- The column sums of the two halves, added. -/
theorem columns_at (x y : FVec Ideal S1x2048x1024 .f32) (k : Fin 1024) :
    k0_pay2 (F := Ideal) (k0_pay3 x) (k0_pay4 y) (ix3 0 0 k) = ∑ r, row x r k + ∑ r, row y r k := by
  pointwise [k0_pay2, k0_pay3, k0_pay4]

/-! ## The second kernel -/

section
variable (X : Fin 16 → Fin 4096 → Fin 1024 → EReal)
  (s : FVec Ideal S16x1024 .f32) (W : FVec Ideal S1024x64 .f32) (v : FVec Ideal S1x64 .f32)
  (U : FVec Ideal S64x1 .f32) (d : FVec Ideal S1x1 .f32) (q : FVec Ideal S16x2048 .f32)
  (hs : ∀ i k, s (ix2 i k) = ∑ r, X i r k)
  (hq : ∀ i p, q (ix2 i p) = Spec.sim (X i (Spec.left p)) (X i (Spec.right p)))

include hs in
/-- From the column sums of `X`, the thresholds. -/
theorem theta_at (i : Fin 16) : k1_pay5 (F := Ideal) s W v U d (ix2 i 0)
    = Spec.theta X (fun k h => W (ix2 k h)) (fun h => v (ix2 0 h)) (fun h => U (ix2 h 0)) (d (ix2 0 0)) i := by
  pointwise [k1_pay5]
  simp only [Ideal.erf_def, Spec.mul_rowsInv, Spec.act_eq, hs]
  rfl

include hs hq in
/-- From the column sums and the similarities of `X`, the logits. -/
theorem logit_at (i : Fin 16) (p : Fin 2048) : k1_pay6 (F := Ideal) s W v U d q (ix2 i p)
    = Spec.logit X (fun k h => W (ix2 k h)) (fun h => v (ix2 0 h)) (fun h => U (ix2 h 0)) (d (ix2 0 0)) i p := by
  pointwise [k1_pay6]
  rw [theta_at X s W v U d hs, hq]
  rfl

end

/-- The mask, as a number. -/
theorem bit_at (l : FVec Ideal S16x2048 .f32) (i : Fin 16) (p : Fin 2048) :
    k1_pay1 (F := Ideal) l (ix2 i p) = Spec.bit (l (ix2 i p)) := by
  pointwise [k1_pay1]
  exact Spec.sitofp_bit _

/-- The mean of the mask. -/
theorem ratio_at (l : FVec Ideal S16x2048 .f32) :
    k1_pay2 (F := Ideal) l (ix2 0 0) = Spec.mean fun i p => Spec.bit (l (ix2 i p)) := by
  pointwise [k1_pay2]
  simp only [bit_at, Spec.mul_pairsInv]
  rfl

/-- The mean of the merge probabilities. -/
theorem prob_at (l : FVec Ideal S16x2048 .f32) :
    k1_pay3 (F := Ideal) l (ix2 0 0) = Spec.mean fun i p => Ideal.logistic (l (ix2 i p)) := by
  pointwise [k1_pay3]
  exact Spec.mul_pairsInv _

/-- The share of tokens kept. -/
theorem kept_at (l : FVec Ideal S16x2048 .f32) :
    k1_pay4 (F := Ideal) l (ix2 0 0) = Spec.keptShare fun i p => l (ix2 i p) := by
  pointwise [k1_pay4]
  rw [ratio_at, Spec.keptShare_eq]

end Cert.KernelIdeal.Blocks

end
-- ==== Proof.Stage1.lean ====
/- What the three result arrays of the first kernel hold, from the blocks of its sixteen points. -/
module

public import proofs.«01_k».proof.Proof.Gen.KernelIdeal.Frame
public import proofs.«01_k».proof.Proof.Blocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Stage1

open Cert.KernelIdeal Cert.KernelIdeal.Gen Cert.KernelIdeal.Blocks

variable (m : (ℓ : Loc nD τ sig) → Buf (Elt Ideal) ℓ) (ρ : Dev nD → PrngReg)

/-- The input by batch, row and column. -/
def rows (c : Dev nD) : Fin 16 → Fin 4096 → Fin 1024 → EReal :=
  fun i r k => (m ((c : Thread nD τ).loc main_arg0) : FVec Ideal S16x4096x1024 .f32) (ix3 i r k)

/-- Row `r` of the first half of a batch. -/
abbrev lower (r : Fin 2048) : Fin 4096 := ⟨r.val, by omega⟩
/-- Row `r` of the second half. -/
abbrev upper (r : Fin 2048) : Fin 4096 := ⟨2048 + r.val, by omega⟩

/-- Where each window's block sits at point `t`: batch `t`, and for the second input window the second half of the rows. -/
theorem idx : ∀ t : Fin cfg0.N, win0_0.index t = ![t.val, 0, 0] ∧ win0_1.index t = ![t.val, 1, 0]
    ∧ win0_2.index t = ![t.val, 0, 0] ∧ win0_3.index t = ![t.val, 0, 0] ∧ win0_4.index t = ![t.val, 0, 0] ∧ t.val < 16 :=
  (by decide +kernel : ∀ t : Fin grid0.N, _)

/-- The batch a point works on. -/
abbrev batch (t : Fin cfg0.N) : Fin 16 := ⟨t.val, (idx t).2.2.2.2.2⟩

/-- The first input window's block at point `t` is the first half of batch `t`. -/
theorem lower_block (c : Dev nD) (t : Fin cfg0.N) (r : Fin 2048) :
    row (iblk0 (V0 m ρ) c 0 t) r = rows m c (batch t) (lower r) := by
  funext k
  show (iblk0 (V0 m ρ) c 0 t : FVec Ideal S1x2048x1024 .f32) (ix3 0 r k) = _
  blk_ext [iblk0, V0, W0, s₀, rows, idx t]

/-- The second input window's block at point `t` is the second half of batch `t`. -/
theorem upper_block (c : Dev nD) (t : Fin cfg0.N) (r : Fin 2048) :
    row (iblk0 (V0 m ρ) c 1 t) r = rows m c (batch t) (upper r) := by
  funext k
  show (iblk0 (V0 m ρ) c 1 t : FVec Ideal S1x2048x1024 .f32) (ix3 0 r k) = _
  blk_ext [iblk0, V0, W0, s₀, rows, idx t]

/-- The similarity of each row with the next one of its half, the half picked out by `half`. -/
def sims (half : Fin 2048 → Fin 4096) (c : Dev nD) : FVec Ideal S16x1x2048 .f32 :=
  fun j => Spec.sim (rows m c (j 0) (half (j 2))) (rows m c (j 0) (half (next (j 2))))

/-- The column sums of each batch over all its rows. -/
def sums (c : Dev nD) : FVec Ideal S16x1x1024 .f32 := fun j => ∑ r, rows m c (j 0) r (j 2)

/-- The offset a whole block is loaded at. -/
theorem zero3 : (![0, 0, 0] : Fin 3 → Nat) = fun _ => 0 := funext fun a => by fin_cases a <;> rfl

/-- The second block as the body names it, loaded whole. -/
theorem second_block (x y : FVec Ideal S1x2048x1024 .f32) : k0_pay9 (F := Ideal) x y = k0_pay4 y :=
  congrArg k0_pay4 (View.ld_unit_zero (Val := Elt Ideal) (e := .f32) (S := S1x2048x1024) zero3 (by decide) y)

/-- A block holding one half of a batch gives the similarities within that half. -/
theorem sims_point (half : Fin 2048 → Fin 4096) (c : Dev nD) (i : Fin 16) (x : FVec Ideal S1x2048x1024 .f32)
    (hx : ∀ r, row x r = rows m c i (half r)) (y : S1x1x2048.Idx) :
    k0_pay7 (k0_pay5 x) (k0_pay6 x) y = sims m half c (ix3 i 0 (y 2)) := by
  obtain ⟨a, b, r, rfl⟩ : ∃ (a : Fin 1) (b : Fin 1) (r : Fin 2048), y = ix3 a b r := ⟨y 0, y 1, y 2, eq_ix3 y⟩
  obtain rfl : a = 0 := Subsingleton.elim _ _
  obtain rfl : b = 0 := Subsingleton.elim _ _
  rw [sim_at, hx, hx]
  rfl

/-- Two blocks holding the halves of a batch give its column sums. -/
theorem sums_point (c : Dev nD) (i : Fin 16) (x z : FVec Ideal S1x2048x1024 .f32)
    (hx : ∀ r, row x r = rows m c i (lower r)) (hz : ∀ r, row z r = rows m c i (upper r)) (y : S1x1x1024.Idx) :
    k0_pay2 (k0_pay3 x) (k0_pay4 z) y = sums m c (ix3 i 0 (y 2)) := by
  obtain ⟨a, b, k, rfl⟩ : ∃ (a : Fin 1) (b : Fin 1) (k : Fin 1024), y = ix3 a b k := ⟨y 0, y 1, y 2, eq_ix3 y⟩
  obtain rfl : a = 0 := Subsingleton.elim _ _
  obtain rfl : b = 0 := Subsingleton.elim _ _
  show _ = ∑ r, rows m c i r k
  rw [columns_at, ← Spec.sum_halves fun r => rows m c i r k]
  exact congrArg₂ (· + ·) (Finset.sum_congr rfl fun r _ => congrFun (hx r) k) (Finset.sum_congr rfl fun r _ => congrFun (hz r) k)

/-- The first result array of the first kernel: the similarities within the first half. -/
theorem low_array (c : Dev nD) : (dat0 (V0 m ρ) c).arrAt 2 cfg0.N = sims m lower c := by
  refine (dat0 (V0 m ρ) c).arrAt_eq_of_covers 2 _ (by decide +kernel) fun t _ y => ?_
  blk_simp
  rw [after0_2]
  frame_out
  refine (sims_point m lower c (batch t) _ (lower_block m ρ c t) y).trans (congrArg (sims m lower c) ?_)
  blk_ext [idx t]

/-- The second result array: the similarities within the second half. -/
theorem high_array (c : Dev nD) : (dat0 (V0 m ρ) c).arrAt 3 cfg0.N = sims m upper c := by
  refine (dat0 (V0 m ρ) c).arrAt_eq_of_covers 3 _ (by decide +kernel) fun t _ y => ?_
  blk_simp
  rw [after0_3]
  frame_out
  rw [second_block, second_eq]
  refine (sims_point m upper c (batch t) _ (upper_block m ρ c t) y).trans (congrArg (sims m upper c) ?_)
  blk_ext [idx t]

/-- The third result array: the column sums. -/
theorem sums_array (c : Dev nD) : (dat0 (V0 m ρ) c).arrAt 4 cfg0.N = sums m c := by
  refine (dat0 (V0 m ρ) c).arrAt_eq_of_covers 4 _ (by decide +kernel) fun t _ y => ?_
  blk_simp
  rw [after0_4]
  frame_out
  rw [second_block]
  refine (sums_point m c (batch t) _ _ (lower_block m ρ c t) (upper_block m ρ c t) y).trans (congrArg (sums m c) ?_)
  blk_ext [idx t]

end Cert.KernelIdeal.Stage1
end
-- ==== Proof.Between.lean ====
/- What the host operations between the two kernels hand to the second one. -/
module

public import proofs.«01_k».proof.Proof.Stage1
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Between

open Cert.KernelIdeal Cert.KernelIdeal.Gen Cert.KernelIdeal.Blocks Cert.KernelIdeal.Stage1

variable (m : (ℓ : Loc nD τ sig) → Buf (Elt Ideal) ℓ) (ρ : Dev nD → PrngReg) (c : Dev nD)

/-- What the first kernel left in its first result array. -/
theorem low_eq : W1 m ρ c (Proc.devRef .tc main_v0_0) = sims m lower c := (W1_arr m ρ c 2).trans (low_array m ρ c)
/-- In its second. -/
theorem high_eq : W1 m ρ c (Proc.devRef .tc main_v0_1) = sims m upper c := (W1_arr m ρ c 3).trans (high_array m ρ c)
/-- In its third. -/
theorem sums_eq : W1 m ρ c (Proc.devRef .tc main_v0_2) = sums m c := (W1_arr m ρ c 4).trans (sums_array m ρ c)

/-- The column sums handed to the second kernel. -/
theorem sums_at (i : Fin 16) (k : Fin 1024) :
    (W2 m ρ c (Proc.devRef .tc main_v5) : FVec Ideal S16x1024 .f32) (ix2 i k) = ∑ r, rows m c i r k := by
  have h : W2 m ρ c (Proc.devRef .tc main_v5) = shapeCast S16x1024 (sums m c) shapeCasts_S16x1x1024_S16x1024 := by
    rw [← sums_eq m ρ c]
    after_results
    rfl
  rw [h]
  pointwise
  rfl

/-- The similarities handed to the second kernel are those of the pairs. -/
theorem sims_at (i : Fin 16) (p : Fin 2048) : (W2 m ρ c (Proc.devRef .tc main_v4) : FVec Ideal S16x2048 .f32) (ix2 i p)
    = Spec.sim (rows m c i (Spec.left p)) (rows m c i (Spec.right p)) := by
  have h : W2 m ρ c (Proc.devRef .tc main_v4) = Host.slice S16x2048 ![0, 0] ![1, 2]
      (concatenate S16x4096 1 [⟨S16x2048, shapeCast S16x2048 (sims m lower c) shapeCasts_S16x1x2048_S16x2048⟩,
        ⟨S16x2048, shapeCast S16x2048 (sims m upper c) shapeCasts_S16x1x2048_S16x2048⟩] concatenates_S16x2048_S16x2048_S16x4096_d1)
      slicesBy_S16x4096_S16x2048_0s1_0s2 := by
    rw [← low_eq m ρ c, ← high_eq m ρ c]
    after_results
    rfl
  rw [h]
  pointwise
  have pair : ∀ r s : Fin 4096, r.val = 2 * p.val → s.val = 2 * p.val + 1 → Spec.sim (rows m c i r) (rows m c i s)
      = Spec.sim (rows m c i (Spec.left p)) (rows m c i (Spec.right p)) := fun r s hr hs => by
    obtain rfl : r = Spec.left p := Fin.ext hr
    obtain rfl : s = Spec.right p := Fin.ext hs
    rfl
  have := p.isLt
  split
  · refine pair _ _ rfl ?_
    show (2 * p.val + 2048 - 2047) % 2048 = _
    omega
  · refine pair _ _ ?_ ?_
    · show 2048 + (2 * p.val - 2048) = _
      omega
    · show 2048 + (2 * p.val - 2048 + 2048 - 2047) % 2048 = _
      omega

/-- The first layer's bias as a row. -/
theorem bias_at (h : Fin 64) : (W2 m ρ c (Proc.devRef .tc main_v6) : FVec Ideal S1x64 .f32) (ix2 0 h)
    = (m ((c : Thread nD τ).loc main_arg2) : FVec Ideal S64 .f32) (ix1 h) := by
  have e : W2 m ρ c (Proc.devRef .tc main_v6)
      = shapeCast S1x64 (m ((c : Thread nD τ).loc main_arg2) : FVec Ideal S64 .f32) shapeCasts_S64_S1x64 := by
    rw [← W1_args m ρ c main_arg2 (by decide)]
    after_results
    rfl
  rw [e]
  pointwise

/-- The second layer's bias as a matrix. -/
theorem last_at : (W2 m ρ c (Proc.devRef .tc main_v7) : FVec Ideal S1x1 .f32) (ix2 0 0)
    = (m ((c : Thread nD τ).loc main_arg4) : FVec Ideal S1 .f32) (ix1 0) := by
  have e : W2 m ρ c (Proc.devRef .tc main_v7)
      = shapeCast S1x1 (m ((c : Thread nD τ).loc main_arg4) : FVec Ideal S1 .f32) shapeCasts_S1_S1x1 := by
    rw [← W1_args m ρ c main_arg4 (by decide)]
    after_results
    rfl
  rw [e]
  pointwise

end Cert.KernelIdeal.Between
end
-- ==== Proof.Stage2.lean ====
/- What the six result arrays of the second kernel hold. -/
module

public import proofs.«01_k».proof.Proof.Between

@[expose] public section

set_option maxRecDepth 16384

noncomputable section

open Idealize.ShloMosaic Idealize.ShloMosaic.TcCoe Idealize.SL.Sem
open Idealize.ShloMosaic.Pipeline (Dat)

namespace Cert.KernelIdeal.Stage2

open Cert.KernelIdeal Cert.KernelIdeal.Gen

variable (m : (ℓ : Loc nD τ sig) → Buf (Elt Ideal) ℓ) (ρ : Dev nD → PrngReg) (c : Dev nD)

/-- What the second kernel reads: the column sums. -/
abbrev sumsIn : FVec Ideal S16x1024 .f32 := W2 m ρ c (Proc.devRef .tc main_v5)
/-- The similarities it reads. -/
abbrev simsIn : FVec Ideal S16x2048 .f32 := W2 m ρ c (Proc.devRef .tc main_v4)
/-- The first layer's weights. -/
abbrev firstIn : FVec Ideal S1024x64 .f32 := W2 m ρ c (Proc.devRef .tc main_arg1)
/-- The first layer's bias. -/
abbrev biasIn : FVec Ideal S1x64 .f32 := W2 m ρ c (Proc.devRef .tc main_v6)
/-- The second layer's weights. -/
abbrev secondIn : FVec Ideal S64x1 .f32 := W2 m ρ c (Proc.devRef .tc main_arg3)
/-- The second layer's bias. -/
abbrev lastIn : FVec Ideal S1x1 .f32 := W2 m ρ c (Proc.devRef .tc main_v7)

/-- Every window of the second kernel sits at the start of its array. -/
theorem idx : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

/-- So each input block is its whole array. -/
theorem blocks (t : Fin cfg1.N) : iblk1 (V2 m ρ) c 0 t = sumsIn m ρ c ∧ iblk1 (V2 m ρ) c 1 t = simsIn m ρ c
    ∧ iblk1 (V2 m ρ) c 2 t = firstIn m ρ c ∧ iblk1 (V2 m ρ) c 3 t = biasIn m ρ c
    ∧ iblk1 (V2 m ρ) c 4 t = secondIn m ρ c ∧ iblk1 (V2 m ρ) c 5 t = lastIn m ρ c := by
  refine ⟨?_, ?_, ?_, ?_, ?_, ?_⟩ <;> funext j <;> blk_ext! [iblk1, V2, idx t]

/-- The thresholds the second kernel computes. -/
def thetas : FVec Ideal S16x1 .f32 :=
  k1_pay5 (sumsIn m ρ c) (firstIn m ρ c) (biasIn m ρ c) (secondIn m ρ c) (lastIn m ρ c)
/-- The logits it computes. -/
def logits : FVec Ideal S16x2048 .f32 :=
  k1_pay6 (sumsIn m ρ c) (firstIn m ρ c) (biasIn m ρ c) (secondIn m ρ c) (lastIn m ρ c) (simsIn m ρ c)

/-- The logits over the blocks of a point. -/
theorem logits_of_blocks (t : Fin cfg1.N) : k1_pay7 (iblk1 (V2 m ρ) c 0 t) (iblk1 (V2 m ρ) c 1 t) (iblk1 (V2 m ρ) c 2 t)
    (iblk1 (V2 m ρ) c 3 t) (iblk1 (V2 m ρ) c 4 t) (iblk1 (V2 m ρ) c 5 t) = logits m ρ c := by
  obtain ⟨h0, h1, h2, h3, h4, h5⟩ := blocks m ρ c t
  rw [h0, h1, h2, h3, h4, h5]
  unfold k1_pay7
  frame_out
  rfl

/-- The thresholds over the blocks of a point. -/
theorem thetas_of_blocks (t : Fin cfg1.N) : k1_pay5 (iblk1 (V2 m ρ) c 0 t) (iblk1 (V2 m ρ) c 2 t)
    (iblk1 (V2 m ρ) c 3 t) (iblk1 (V2 m ρ) c 4 t) (iblk1 (V2 m ρ) c 5 t) = thetas m ρ c := by
  obtain ⟨h0, -, h2, h3, h4, h5⟩ := blocks m ρ c t
  rw [h0, h2, h3, h4, h5]
  rfl

/-- The six result arrays: the logits, the mask as numbers, the thresholds, the mean of the mask, the mean merge
    probability and the share of tokens kept. -/
theorem arrays : (dat1 (V2 m ρ) c).arrAt 6 cfg1.N = logits m ρ c
    ∧ (dat1 (V2 m ρ) c).arrAt 7 cfg1.N = k1_pay1 (logits m ρ c)
    ∧ (dat1 (V2 m ρ) c).arrAt 8 cfg1.N = thetas m ρ c
    ∧ (dat1 (V2 m ρ) c).arrAt 9 cfg1.N = k1_pay2 (logits m ρ c)
    ∧ (dat1 (V2 m ρ) c).arrAt 10 cfg1.N = k1_pay3 (logits m ρ c)
    ∧ (dat1 (V2 m ρ) c).arrAt 11 cfg1.N = k1_pay4 (logits m ρ c) := by
  refine ⟨?_, ?_, ?_, ?_, ?_, ?_⟩
  all_goals
    refine (dat1 (V2 m ρ) c).arrAt_eq_of_after_last _ t1_0 (by decide +kernel) _ fun j => ?_
    blk_simp
    first | rw [after1_6] | rw [after1_7] | rw [after1_8] | rw [after1_9] | rw [after1_10] | rw [after1_11]
    frame_out
    first | rw [logits_of_blocks] | rw [thetas_of_blocks]

end Cert.KernelIdeal.Stage2
end
-- ==== Proof.Reference.lean ====
/- The reference's run and its six results at an index, in the terms of Spec.lean. -/
module

public import proofs.«01_k».proof.Proof.Gen.ReferenceIdeal.Run
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen

variable (X : FVec Ideal S16x4096x1024 .f32) (W : FVec Ideal S1024x64 .f32) (b : FVec Ideal S64 .f32)
  (U : FVec Ideal S64x1 .f32) (d : FVec Ideal S1 .f32)

/-- Every row over its length, a length never below the small constant. -/
def unitRows : FVec Ideal S16x4096x1024 .f32 :=
  Host.divf X (broadcastInDim S16x4096x1024 ![0, 1, 2] bcast_S16x4096x1_S16x4096x1024_0_1_2
    (maximumf (Host.sqrt (broadcastInDim S16x4096x1 ![0, 1] bcast_S16x4096_S16x4096x1_0_1
        (Host.reduceAdd (mulf X X) (constant S_ .f32 0x00000000#32) reducesTo_S16x4096x1024_S16x4096_d2 h_S_)))
      (broadcastInDim S16x4096x1 ![] bcast_S_S16x4096x1 (constant S_ .f32 0x2B8CBCCC#32))))

/-- The product of each even row with the odd row after it. -/
def sims : FVec Ideal S16x2048 .f32 :=
  Host.reduceAdd (mulf (Host.slice S16x2048x1024 ![0, 0, 0] ![1, 2, 1] (unitRows X) slicesBy_S16x4096x1024_S16x2048x1024_0s1_0s2_0s1)
      (Host.slice S16x2048x1024 ![0, 1, 0] ![1, 2, 1] (unitRows X) slicesBy_S16x4096x1024_S16x2048x1024_0s1_1s2_0s1))
    (constant S_ .f32 0x00000000#32) reducesTo_S16x2048x1024_S16x2048_d2 h_S_

/-- The first layer of the gate, before its activation. -/
def hidden : FVec Ideal S16x64 .f32 :=
  addf (Host.dotGeneral dot_S16x1024_S1024x64_S16x64_1_0_0_1_n_n none
      (Host.divf (Host.reduceAdd X (constant S_ .f32 0x00000000#32) reducesTo_S16x4096x1024_S16x1024_d1 h_S_)
        (broadcastInDim S16x1024 ![] bcast_S_S16x1024 (constant S_ .f32 0x45800000#32))) W)
    (broadcastInDim S16x64 ![0, 1] bcast_S1x64_S16x64_0_1 (broadcastInDim S1x64 ![1] bcast_S64_S1x64_1 b))

/-- The first layer of the gate after its activation. -/
def active : FVec Ideal S16x64 .f32 :=
  mulf (mulf (broadcastInDim S16x64 ![] bcast_S_S16x64 (constant S_ .f32 0x3F000000#32)) (hidden X W b))
    (Host.erfc (mulf (Host.negf (hidden X W b)) (broadcastInDim S16x64 ![] bcast_S_S16x64 (constant S_ .f32 0x3F3504F3#32))))

/-- The second layer of the gate. -/
def gate : FVec Ideal S16 .f32 :=
  shapeCast S16 (addf (Host.dotGeneral dot_S16x64_S64x1_S16x1_1_0_0_1_n_n none (active X W b) U)
    (broadcastInDim S16x1 ![0, 1] bcast_S1x1_S16x1_0_1 (broadcastInDim S1x1 ![1] bcast_S1_S1x1_1 d))) shapeCasts_S16x1_S16

/-- The thresholds. -/
def thetas : FVec Ideal S16 .f32 :=
  addf (broadcastInDim S16 ![] bcast_S_S16 (constant S_ .f32 0x00000000#32))
    (mulf (broadcastInDim S16 ![] bcast_S_S16 (constant S_ .f32 0x40000000#32))
      (Host.divf (broadcastInDim S16 ![] bcast_S_S16 (constant S_ .f32 0x3F800000#32))
        (addf (broadcastInDim S16 ![] bcast_S_S16 (constant S_ .f32 0x3F800000#32)) (Host.exp (Host.negf (gate X W b U d))))))

/-- The logits. -/
def logits : FVec Ideal S16x2048 .f32 :=
  Host.divf (subf (sims X) (broadcastInDim S16x2048 ![0, 1] bcast_S16x1_S16x2048_0_1
      (broadcastInDim S16x1 ![0] bcast_S16_S16x1_0 (thetas X W b U d))))
    (broadcastInDim S16x2048 ![] bcast_S_S16x2048 (constant S_ .f32 0x3DCCCCCD#32))

/-- The mask. -/
def mask (l : FVec Ideal S16x2048 .f32) : IVec S16x2048 1 :=
  cmpf .oge l (broadcastInDim S16x2048 ![] bcast_S_S16x2048 (constant S_ .f32 0x00000000#32))

/-- The mean over all pairs. -/
def mean (v : FVec Ideal S16x2048 .f32) : FVec Ideal S_ .f32 :=
  Host.divf (Host.reduceAdd v (constant S_ .f32 0x00000000#32) reducesTo_S16x2048_S_d0_1 h_S_) (constant S_ .f32 0x47000000#32)

/-- The merge probabilities. -/
def probs (l : FVec Ideal S16x2048 .f32) : FVec Ideal S16x2048 .f32 :=
  Host.divf (broadcastInDim S16x2048 ![] bcast_S_S16x2048 (constant S_ .f32 0x3F800000#32))
    (addf (broadcastInDim S16x2048 ![] bcast_S_S16x2048 (constant S_ .f32 0x3F800000#32)) (Host.exp (Host.negf l)))

/-- The tokens a pair keeps. -/
def kept (k : IVec S16x2048 1) : FVec Ideal S16x2048 .f32 :=
  addf (mulf (broadcastInDim S16x2048 ![] bcast_S_S16x2048 (constant S_ .f32 0x3F800000#32)) (uitofp .f32 k))
    (mulf (broadcastInDim S16x2048 ![] bcast_S_S16x2048 (constant S_ .f32 0x40000000#32)) (uitofp .f32 (noti k)))

/-- THE REFERENCE'S RUN: its six results are the functions above of the arguments, which end as they began. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let X : FVec Ideal S16x4096x1024 .f32 := m ((c.tc : Thread nD τ).loc main_arg0)
      let W : FVec Ideal S1024x64 .f32 := m ((c.tc : Thread nD τ).loc main_arg1)
      let b : FVec Ideal S64 .f32 := m ((c.tc : Thread nD τ).loc main_arg2)
      let U : FVec Ideal S64x1 .f32 := m ((c.tc : Thread nD τ).loc main_arg3)
      let d : FVec Ideal S1 .f32 := m ((c.tc : Thread nD τ).loc main_arg4)
      r.2.mem ((c.tc : Thread nD τ).loc main_v42) = logits X W b U d
      ∧ r.2.mem ((c.tc : Thread nD τ).loc main_v44) = mask (logits X W b U d)
      ∧ r.2.mem ((c.tc : Thread nD τ).loc main_v37) = thetas X W b U d
      ∧ r.2.mem ((c.tc : Thread nD τ).loc main_v47) = mean (uitofp .f32 (mask (logits X W b U d)))
      ∧ r.2.mem ((c.tc : Thread nD τ).loc main_v55) = mean (probs (logits X W b U d))
      ∧ r.2.mem ((c.tc : Thread nD τ).loc main_v66) = Host.divf (mean (kept (mask (logits X W b U d)))) (constant S_ .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-! ## The named values at an index -/

/-- The input by batch, row and column. -/
abbrev rows : Fin 16 → Fin 4096 → Fin 1024 → EReal := fun i r k => X (ix3 i r k)

/-- An entry of a row over the row's length. -/
theorem unitRows_at (i : Fin 16) (r : Fin 4096) (k : Fin 1024) :
    unitRows X (ix3 i r k) = Ideal.div (X (ix3 i r k)) (Spec.len (rows X i r)) := by
  pointwise [unitRows, Spec.len]

/-- The similarity of the two rows of a pair. -/
theorem sims_at (i : Fin 16) (p : Fin 2048) :
    sims X (ix2 i p) = Spec.sim (rows X i (Spec.left p)) (rows X i (Spec.right p)) := by
  have hr : ∀ h, (⟨1 + 2 * p.val, h⟩ : Fin 4096) = Spec.right p := fun h => Fin.ext (Nat.add_comm _ _)
  pointwise [sims]
  simp only [hr, unitRows_at]
  rfl

/-- The first layer. -/
theorem hidden_at (i : Fin 16) (h : Fin 64) :
    hidden X W b (ix2 i h) = Spec.hidden (rows X) (fun k h => W (ix2 k h)) (fun h => b (ix1 h)) i h := by
  pointwise [hidden, Spec.hidden]

/-- The first layer after its activation. -/
theorem active_at (i : Fin 16) (h : Fin 64) : active X W b (ix2 i h)
    = Spec.act (Spec.hidden (rows X) (fun k h => W (ix2 k h)) (fun h => b (ix1 h)) i h) := by
  pointwise [active]
  rw [hidden_at]
  rfl

/-- The thresholds. -/
theorem thetas_at (i : Fin 16) : thetas X W b U d (ix1 i)
    = Spec.theta (rows X) (fun k h => W (ix2 k h)) (fun h => b (ix1 h)) (fun h => U (ix2 h 0)) (d (ix1 0)) i := by
  pointwise [thetas, gate]
  simp only [active_at]
  rfl

/-- The logits. -/
theorem logits_at (i : Fin 16) (p : Fin 2048) : logits X W b U d (ix2 i p)
    = Spec.logit (rows X) (fun k h => W (ix2 k h)) (fun h => b (ix1 h)) (fun h => U (ix2 h 0)) (d (ix1 0)) i p := by
  pointwise [logits]
  rw [sims_at, thetas_at]
  rfl

section
variable (l : FVec Ideal S16x2048 .f32)

/-- The mask: one where the logit is not negative. -/
theorem mask_at (i : Fin 16) (p : Fin 2048) : mask l (ix2 i p) = BitVec.ofBool (decide (0 ≤ l (ix2 i p))) := by
  pointwise [mask]

/-- The mean. -/
theorem mean_at (f : FVec Ideal S16x2048 .f32) : mean f ix0 = Spec.mean fun i p => f (ix2 i p) := by
  pointwise [mean, Spec.mean]

/-- The mean of the mask. -/
theorem ratio_at : mean (uitofp .f32 (mask l)) ix0 = Spec.mean fun i p => Spec.bit (l (ix2 i p)) := by
  rw [mean_at]
  refine congrArg Spec.mean (funext fun i => funext fun p => ?_)
  pointwise [mask]
  exact Spec.uitofp_bit _

/-- The mean of the merge probabilities. -/
theorem prob_at : mean (probs l) ix0 = Spec.mean fun i p => Ideal.logistic (l (ix2 i p)) := by
  rw [mean_at]
  refine congrArg Spec.mean (funext fun i => funext fun p => ?_)
  pointwise [probs, Ideal.logistic]

/-- The share of tokens kept. -/
theorem kept_at : Host.divf (mean (kept (mask l))) (constant S_ .f32 0x40000000#32) ix0
    = Spec.keptShare fun i p => l (ix2 i p) := by
  pointwise []
  rw [mean_at, Spec.keptShare]
  refine congrArg (fun f => Ideal.div (Spec.mean f) _) (funext fun i => funext fun p => ?_)
  pointwise [kept, mask]
  rw [Spec.uitofp_bit, Spec.uitofp_not]

end

end Cert.ReferenceIdeal.RefValue

end
-- ==== Proof.KernelRun.lean ====
/- The run of the two kernels and the host operations around them, every buffer read at the end. -/
module

public import proofs.«01_k».proof.Proof.Gen.KernelIdeal.Frame

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch are found by unifying its conclusion with this one
set_option backward.isDefEq.respectTransparency.types false in
/-- THE RUN. From any memory with zero counters every weakly fair execution of the two kernels and the host
    operations around them ends, and then every buffer of the device holds what the fold over the four stretches of
    the program (`W4`) says it holds; the five arguments are as launched. -/
theorem run : θ_run defs (onTc (τ := τ) (main (F := F))) ⟨m, fun _ => 0, ρ⟩ (fun r => ∀ c : Dev nD,
      (∀ b ∈ Pipeline.ucRefs τ sig, r.2.mem (((c : Thread nD τ)).1, b) = W4 m ρ c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KernelRun

end
-- ==== Proof.Equation.lean ====
/- The program's six results are the reference's. -/
module

public import proofs.«01_k».proof.Proof.Stage2
public import proofs.«01_k».proof.Proof.Reference
public import proofs.«01_k».proof.Proof.KernelRun

@[expose] public section

set_option maxRecDepth 16384

noncomputable section

open Idealize.ShloMosaic Idealize.ShloMosaic.TcCoe Idealize.SL.Sem

namespace Cert.KernelIdeal.Equation

open Cert.KernelIdeal Cert.KernelIdeal.Gen

variable (m : (ℓ : Loc nD τ sig) → Buf (Elt Ideal) ℓ) (ρ : Dev nD → PrngReg) (c : Dev nD)

/-- The rows. -/
abbrev argX : FVec Ideal S16x4096x1024 .f32 := m ((c.tc : Thread nD τ).loc main_arg0)
/-- The first layer's weights. -/
abbrev argW : FVec Ideal S1024x64 .f32 := m ((c.tc : Thread nD τ).loc main_arg1)
/-- The first layer's bias. -/
abbrev argB : FVec Ideal S64 .f32 := m ((c.tc : Thread nD τ).loc main_arg2)
/-- The second layer's weights. -/
abbrev argU : FVec Ideal S64x1 .f32 := m ((c.tc : Thread nD τ).loc main_arg3)
/-- The second layer's bias. -/
abbrev argD : FVec Ideal S1 .f32 := m ((c.tc : Thread nD τ).loc main_arg4)

/-- The reference's logits of these arguments. -/
abbrev refLogits : FVec Ideal S16x2048 .f32 :=
  Cert.ReferenceIdeal.RefValue.logits (argX m c) (argW m c) (argB m c) (argU m c) (argD m c)
/-- The reference's thresholds of them. -/
abbrev refThetas : FVec Ideal S16 .f32 :=
  Cert.ReferenceIdeal.RefValue.thetas (argX m c) (argW m c) (argB m c) (argU m c) (argD m c)

/-- The first layer's weights the second kernel reads are the argument. -/
theorem first_eq : Stage2.firstIn m ρ c = argW m c := W2_args m ρ c main_arg1 (by decide)
/-- So are the second layer's weights. -/
theorem second_eq : Stage2.secondIn m ρ c = argU m c := W2_args m ρ c main_arg3 (by decide)
/-- So is the first layer's bias. -/
theorem bias_eq : (fun h : Fin 64 => Stage2.biasIn m ρ c (ix2 0 h)) = fun h => argB m c (ix1 h) :=
  funext (Between.bias_at m ρ c)
/-- So is the second layer's bias. -/
theorem last_eq : Stage2.lastIn m ρ c (ix2 0 0) = argD m c (ix1 0) := Between.last_at m ρ c

/-- The second kernel's thresholds are the reference's. -/
theorem thetas_at (i : Fin 16) : Stage2.thetas m ρ c (ix2 i 0) = refThetas m c (ix1 i) := by
  unfold Stage2.thetas
  refine Eq.trans ?_ (Cert.ReferenceIdeal.RefValue.thetas_at _ _ _ _ _ i).symm
  rw [Blocks.theta_at (Stage1.rows m c) _ _ _ _ _ (Between.sums_at m ρ c), first_eq, second_eq, last_eq, bias_eq]
  rfl

/-- The second kernel's logits are the reference's. -/
theorem logits_eq : Stage2.logits m ρ c = refLogits m c := by
  funext j
  obtain ⟨i, p, rfl⟩ : ∃ (i : Fin 16) (p : Fin 2048), j = ix2 i p := ⟨j 0, j 1, eq_ix2 j⟩
  unfold Stage2.logits
  refine Eq.trans ?_ (Cert.ReferenceIdeal.RefValue.logits_at _ _ _ _ _ i p).symm
  rw [Blocks.logit_at (Stage1.rows m c) _ _ _ _ _ _ (Between.sums_at m ρ c) (Between.sims_at m ρ c), first_eq, second_eq, last_eq, bias_eq]
  rfl

/-- What the second kernel leaves in its six result arrays. -/
theorem outs : W3 m ρ c (Proc.devRef .tc main_v8_0) = refLogits m c
    ∧ W3 m ρ c (Proc.devRef .tc main_v8_1) = k1_pay1 (refLogits m c)
    ∧ W3 m ρ c (Proc.devRef .tc main_v8_2) = Stage2.thetas m ρ c
    ∧ W3 m ρ c (Proc.devRef .tc main_v8_3) = k1_pay2 (refLogits m c)
    ∧ W3 m ρ c (Proc.devRef .tc main_v8_4) = k1_pay3 (refLogits m c)
    ∧ W3 m ρ c (Proc.devRef .tc main_v8_5) = k1_pay4 (refLogits m c) := by
  obtain ⟨h0, h1, h2, h3, h4, h5⟩ := Stage2.arrays m ρ c
  rw [logits_eq] at h0 h1 h3 h4 h5
  exact ⟨(W3_arr m ρ c 6).trans h0, (W3_arr m ρ c 7).trans h1, (W3_arr m ρ c 8).trans h2, (W3_arr m ρ c 9).trans h3,
    (W3_arr m ρ c 10).trans h4, (W3_arr m ρ c 11).trans h5⟩

/-- The first result of the program: the reference's logits. -/
theorem logits_result : W4 m ρ c (Proc.devRef .tc main_v8_0) = refLogits m c :=
  (W4_of m ρ c main_v8_0 (by decide)).trans (outs m ρ c).1

/-- The second: the reference's mask. -/
theorem mask_result : W4 m ρ c (Proc.devRef .tc main_v11) = Cert.ReferenceIdeal.RefValue.mask (refLogits m c) := by
  have h : W4 m ρ c (Proc.devRef .tc main_v11) = cmpf .une (k1_pay1 (refLogits m c))
      (broadcastInDim S16x2048 ![] bcast_S_S16x2048 (constant (F := Ideal) S_ .f32 0x00000000#32)) := by
    rw [← (outs m ρ c).2.1]
    after_results
    try rfl
  rw [h]
  funext j
  obtain ⟨i, p, rfl⟩ : ∃ (i : Fin 16) (p : Fin 2048), j = ix2 i p := ⟨j 0, j 1, eq_ix2 j⟩
  refine Eq.trans ?_ (Cert.ReferenceIdeal.RefValue.mask_at _ i p).symm
  pointwise
  rw [Blocks.bit_at]
  exact Spec.bit_ne_zero _

/-- The third: the reference's thresholds. -/
theorem thetas_result : W4 m ρ c (Proc.devRef .tc main_v12) = refThetas m c := by
  have h : W4 m ρ c (Proc.devRef .tc main_v12) = shapeCast S16 (Stage2.thetas m ρ c) shapeCasts_S16x1_S16 := by
    rw [← (outs m ρ c).2.2.1]
    after_results
    rfl
  rw [h]
  funext j
  obtain ⟨i, rfl⟩ : ∃ i : Fin 16, j = ix1 i := ⟨j 0, eq_ix1 j⟩
  rw [← thetas_at m ρ c]
  pointwise

/-- A one by one matrix read as a scalar is the scalar it agrees with at their only index. -/
theorem scalar_ext {x : FVec Ideal S1x1 .f32} {y : FVec Ideal S_ .f32} (h : x (ix2 0 0) = y ix0) :
    shapeCast S_ x shapeCasts_S1x1_S_ = y := by
  funext j
  rw [show j = ix0 from funext fun a => a.elim0, ← h]
  pointwise

/-- The fourth: the mean of the reference's mask. -/
theorem ratio_result : W4 m ρ c (Proc.devRef .tc main_v13)
    = Cert.ReferenceIdeal.RefValue.mean (uitofp .f32 (Cert.ReferenceIdeal.RefValue.mask (refLogits m c))) := by
  have h : W4 m ρ c (Proc.devRef .tc main_v13) = shapeCast S_ (k1_pay2 (refLogits m c)) shapeCasts_S1x1_S_ := by
    rw [← (outs m ρ c).2.2.2.1]
    after_results
    rfl
  rw [h]
  exact scalar_ext ((Blocks.ratio_at _).trans (Cert.ReferenceIdeal.RefValue.ratio_at _).symm)

/-- The fifth: the reference's mean merge probability. -/
theorem prob_result : W4 m ρ c (Proc.devRef .tc main_v14)
    = Cert.ReferenceIdeal.RefValue.mean (Cert.ReferenceIdeal.RefValue.probs (refLogits m c)) := by
  have h : W4 m ρ c (Proc.devRef .tc main_v14) = shapeCast S_ (k1_pay3 (refLogits m c)) shapeCasts_S1x1_S_ := by
    rw [← (outs m ρ c).2.2.2.2.1]
    after_results
    rfl
  rw [h]
  exact scalar_ext ((Blocks.prob_at _).trans (Cert.ReferenceIdeal.RefValue.prob_at _).symm)

/-- The sixth: the reference's share of tokens kept. -/
theorem kept_result : W4 m ρ c (Proc.devRef .tc main_v15)
    = Host.divf (Cert.ReferenceIdeal.RefValue.mean (Cert.ReferenceIdeal.RefValue.kept
        (Cert.ReferenceIdeal.RefValue.mask (refLogits m c)))) (constant (F := Ideal) S_ .f32 0x40000000#32) := by
  have h : W4 m ρ c (Proc.devRef .tc main_v15) = shapeCast S_ (k1_pay4 (refLogits m c)) shapeCasts_S1x1_S_ := by
    rw [← (outs m ρ c).2.2.2.2.2]
    after_results
    rfl
  rw [h]
  exact scalar_ext ((Blocks.kept_at _).trans (Cert.ReferenceIdeal.RefValue.kept_at _).symm)

/-- THE KERNEL'S RUN, in the reference's terms: the six results are the reference's six functions of the arguments, which
    end as they began. -/
theorem run : θ_run defs (onTc (τ := τ) (main (F := Ideal))) ⟨m, fun _ => 0, ρ⟩ fun r => ∀ c : Dev nD,
      r.2.mem ((c.tc : Thread nD τ).loc main_v8_0) = refLogits m c
      ∧ r.2.mem ((c.tc : Thread nD τ).loc main_v11) = Cert.ReferenceIdeal.RefValue.mask (refLogits m c)
      ∧ r.2.mem ((c.tc : Thread nD τ).loc main_v12) = refThetas m c
      ∧ r.2.mem ((c.tc : Thread nD τ).loc main_v13)
        = Cert.ReferenceIdeal.RefValue.mean (uitofp .f32 (Cert.ReferenceIdeal.RefValue.mask (refLogits m c)))
      ∧ r.2.mem ((c.tc : Thread nD τ).loc main_v14)
        = Cert.ReferenceIdeal.RefValue.mean (Cert.ReferenceIdeal.RefValue.probs (refLogits m c))
      ∧ r.2.mem ((c.tc : Thread nD τ).loc main_v15)
        = Host.divf (Cert.ReferenceIdeal.RefValue.mean (Cert.ReferenceIdeal.RefValue.kept
            (Cert.ReferenceIdeal.RefValue.mask (refLogits m c)))) (constant (F := Ideal) S_ .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (KernelRun.run m ρ) fun r hr c => ?_
  obtain ⟨h, hargs⟩ := hr c
  exact ⟨(h _ (mem_uc main_v8_0 (by decide))).trans (logits_result m ρ c),
    (h _ (mem_uc main_v11 (by decide))).trans (mask_result m ρ c),
    (h _ (mem_uc main_v12 (by decide))).trans (thetas_result m ρ c),
    (h _ (mem_uc main_v13 (by decide))).trans (ratio_result m ρ c),
    (h _ (mem_uc main_v14 (by decide))).trans (prob_result m ρ c),
    (h _ (mem_uc main_v15 (by decide))).trans (kept_result m ρ c), hargs⟩

end Cert.KernelIdeal.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel's six results are the reference's six results on every input: the kernel's run and the reference's run end
    at the same functions of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, Cert.KernelIdeal.Equation.run m g, ?_⟩
  refine θ_run_mono (Cert.ReferenceIdeal.RefValue.run m' g') fun r hr c => ?_
  have h := hr c
  obtain ⟨h0, h1, h2, h3, h4⟩ := hagree c
  rw [h0, h1, h2, h3, h4] at h
  rw [h0, h1, h2, h3, h4]
  exact h

/-- The reference ends with its arguments as they began and every counter at zero. -/
theorem frame_reference : Cert.quiescent_ReferenceIdeal (hReferenceIdeal := Cert.ReferenceIdeal.Gen.facts) := by
  intro m g _
  refine θ_run_mono (Cert.ReferenceIdeal.RefValue.run m g) fun r hr => ⟨fun c => ?_, sem_eq_zero_of_no_sems (by decide) r.2⟩
  exact (hr c).2.2.2.2.2.2

/-- All five claims: the three frames, the kernel's idealization, and the equation of the values. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
